-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_step_names_row [hPre_step_names_row : Cert.Pre_step_names_row.Facts] (m : (ℓ : Loc Cert.KernelIdeal.nD Cert.KernelIdeal.τ Cert.KernelIdeal.sig) → Buf (Elt Ideal) ℓ) : Prop :=
  ∀ c : Dev Cert.KernelIdeal.nD,
    (Cert.Pre_step_names_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_step_names_row [hPre_step_names_row : Cert.Pre_step_names_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_step_names_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_step_names_row [hKernelIdeal : Cert.KernelIdeal.Facts] [hPre_step_names_row : Cert.Pre_step_names_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_step_names_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_step_names_row [hReferenceIdeal : Cert.ReferenceIdeal.Facts] [hPre_step_names_row : Cert.Pre_step_names_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_step_names_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_step_names_row [hKernelIdeal : Cert.KernelIdeal.Facts] [hReferenceIdeal : Cert.ReferenceIdeal.Facts] [hPre_step_names_row : Cert.Pre_step_names_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_step_names_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_step_names_row : Cert.Pre_step_names_row.Facts),
    quiescent_Kernel (hKernel := hKernel)
    ∧ quiescent_KernelIdeal (hKernelIdeal := hKernelIdeal)
    ∧ quiescent_KernelIdeal_pre_step_names_row (hKernelIdeal := hKernelIdeal) (hPre_step_names_row := hPre_step_names_row)
    ∧ quiescent_ReferenceIdeal (hReferenceIdeal := hReferenceIdeal)
    ∧ quiescent_ReferenceIdeal_pre_step_names_row (hReferenceIdeal := hReferenceIdeal) (hPre_step_names_row := hPre_step_names_row)
    ∧ preserves_Kernel_KernelIdeal
    ∧ algebraic_KernelIdeal_ReferenceIdeal_pre_step_names_row (hKernelIdeal := hKernelIdeal) (hReferenceIdeal := hReferenceIdeal) (hPre_step_names_row := hPre_step_names_row)
-- ==== Pre_step_names_row.lean ====
abbrev S1024x100000 : Shape := ⟨2, ![1024, 100000]⟩
abbrev S20x100000 : Shape := ⟨2, ![20, 100000]⟩
abbrev S_ : Shape := ⟨0, ![]⟩

class Facts : Prop where

variable [Facts]

def fn {F : FTy → Type} [FloatOps F] (main_arg0 : FVec F S1024x100000 .f32) (main_arg1 : FVec F S20x100000 .f32) (main_arg2 : IVec S_ 32) : IVec S_ 1 :=
  let main_c : IVec S_ 32 := constantI S_ 32 1#32
  let main_v0 : IVec S_ 1 := cmpi .sge main_arg2 main_c
  let main_c_0 : IVec S_ 32 := constantI S_ 32 20#32
  let main_v1 : IVec S_ 1 := cmpi .sle main_arg2 main_c_0
  let main_v2 : IVec S_ 1 := andi main_v0 main_v1
  main_v2
-- ==== Kernel.lean ====
abbrev S1024x100000 : Shape := ⟨2, ![1024, 100000]⟩
abbrev S20x100000 : Shape := ⟨2, ![20, 100000]⟩
abbrev S_ : Shape := ⟨0, ![]⟩
abbrev S100000x1024 : Shape := ⟨2, ![100000, 1024]⟩
abbrev S1 : Shape := ⟨1, ![1]⟩
abbrev S2048x1024 : Shape := ⟨2, ![2048, 1024]⟩
abbrev S20x2048 : Shape := ⟨2, ![20, 2048]⟩
abbrev S2048x20 : Shape := ⟨2, ![2048, 20]⟩
abbrev S2048 : Shape := ⟨1, ![2048]⟩
abbrev S2048x1 : Shape := ⟨2, ![2048, 1]⟩

abbrev nBuf : Space → Nat
  | .hbm => 6
  | .vmem => 6
  | .smem => 1
  | _ => 0

abbrev bufTy : (tb : Table) → Fin (tcTables nBuf tb) → BufTy
  | .hbm, ⟨0, _⟩ => ⟨S1024x100000, .f32⟩
  | .hbm, ⟨1, _⟩ => ⟨S20x100000, .f32⟩
  | .hbm, ⟨2, _⟩ => ⟨S_, .i32⟩
  | .hbm, ⟨3, _⟩ => ⟨S100000x1024, .f32⟩
  | .hbm, ⟨4, _⟩ => ⟨S100000x1024, .f32⟩
  | .hbm, ⟨5, _⟩ => ⟨S1024x100000, .f32⟩
  | .local _ .vmem, ⟨0, _⟩ => ⟨S2048x1024, .f32⟩
  | .local _ .vmem, ⟨1, _⟩ => ⟨S2048x1024, .f32⟩
  | .local _ .vmem, ⟨2, _⟩ => ⟨S20x2048, .f32⟩
  | .local _ .vmem, ⟨3, _⟩ => ⟨S20x2048, .f32⟩
  | .local _ .vmem, ⟨4, _⟩ => ⟨S2048x1024, .f32⟩
  | .local _ .vmem, ⟨5, _⟩ => ⟨S2048x1024, .f32⟩
  | .local _ .smem, ⟨0, _⟩ => ⟨S1, .i32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v2 : Ref sig .tc := ⟨.hbm, 4, rfl⟩
abbrev main_v3 : Ref sig .tc := ⟨.hbm, 5, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![49], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x100000 : Shape := ⟨2, ![1024, 100000]⟩
abbrev S20x100000 : Shape := ⟨2, ![20, 100000]⟩
abbrev S_ : Shape := ⟨0, ![]⟩
abbrev S1 : Shape := ⟨1, ![1]⟩
abbrev S100000 : Shape := ⟨1, ![100000]⟩
abbrev S1x100000 : Shape := ⟨2, ![1, 100000]⟩

abbrev nBuf : Space → Nat
  | .hbm => 27
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S20x100000, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S1, .i1⟩
  | .hbm, ⟨15, _⟩ => ⟨S1, .i1⟩
  | .hbm, ⟨16, _⟩ => ⟨S1, .i1⟩
  | .hbm, ⟨17, _⟩ => ⟨S_, .i1⟩
  | .hbm, ⟨18, _⟩ => ⟨S_, .i1⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S1x100000, .f32⟩
  | .hbm, ⟨25, _⟩ => ⟨S1024x100000, .f32⟩
  | .hbm, ⟨26, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_c_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_c_1 : Ref sig .tc := ⟨.hbm, 11, rfl⟩
abbrev main_call0_c_2 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_c_3 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_cst : Ref sig .tc := ⟨.hbm, 21, rfl⟩
abbrev main_call0_v11 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩

abbrev nD : Nat := 1
abbrev τ : Topo := Topo.v7x

variable {F : FTy → Type} [FloatOps F]
-- ==== Proof.Body.lean ====
/-
  The block computation as a triple: what one run of the kernel body does to the three staging
  buffers and the table. The body reads the step from the table, a block of the mask and a block of the transposed
  probabilities, and stores the payload `k0_pay1` of the three; the buffers it reads keep their contents. Stated over
  ANY memrefs of the right types, so it serves every pair of buffers the pipeline rotates through.
-/
module

public import proofs.«01_k».proof.Proof.Gen.KernelIdeal.Skeleton
public import Idealize.ShloMosaic.Lib.Tactic
public import Idealize.ShloMosaic.Lib.Pipeline.FrameSuffix

@[expose] public section

noncomputable section

namespace Cert.MaskMul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: none. -/
abbrev 𝒱₀ : Variants := Variants.none

section Access

variable {κ : Kind} {sp : Space} {s : Shape} {e : EltTy}

/-- A unit-stride access at offsets zero of the memref's own sizes reads what the memref reads, -/
theorem read_all (M : Memref sig κ sp s e) {off : Fin s.rank → Nat} (h : off = fun _ => 0)
    (inb : ∀ a, off a + s.size a ≤ s.size a) (f : M.view.ty.Contents (Elt F)) :
    (M.access (Rect.unit off s.size inb)).read (Elt F) f = M.view.read (Elt F) f := by
  subst h
  funext x
  show _root_.cast _ (f (M.view.emb ((Rect.whole s).emb x))) = _root_.cast _ (f (M.view.emb x))
  rw [Rect.emb_whole_apply]

/-- and after an unmasked store through it the memref reads the stored vector. -/
theorem read_store_all (M : Memref sig κ sp s e) {off : Fin s.rank → Nat} (h : off = fun _ => 0)
    (inb : ∀ a, off a + s.size a ≤ s.size a) (f : M.view.ty.Contents (Elt F)) (w : s.Idx → Elt F e) :
    M.view.read (Elt F) ((M.access (Rect.unit off s.size inb)).write (Elt F) f w Finset.univ) = w := by
  rw [← read_all M h inb]
  exact View.read_write_univ _ _

end Access

theorem zero₂ : (![0, 0] : Fin 2 → Nat) = fun _ => 0 := funext fun a => by fin_cases a <;> rfl
theorem zero₁ : (![0] : Fin 1 → Nat) = fun _ => 0 := funext fun a => by fin_cases a; rfl

/-- The step, as the body reads it from the table's contents. -/
def stepWord (v : S1.Idx → Elt F .i32) : Elt F .i32 := v (Shape.Idx.first (s := S1) (by decide))

/-- The body: from the table at any share, the probabilities' buffer at `X0`, the mask's at `X1` and the result's at
    anything, it ends with the result's at the payload and the rest as it was. -/
theorem body_triple (c : Dev nD) (E : Set ℕ) (i : grid0.Coords) (q : PosShare TreeShare)
    (MT' : Memref sig .tc .smem S1 .i32) (hT : MT'.IsWhole)
    (M0 : Memref sig .tc .vmem S2048x1024 .f32) (h0 : M0.IsWhole) (M1 : Memref sig .tc .vmem S20x2048 .f32) (h1 : M1.IsWhole)
    (M2 : Memref sig .tc .vmem S2048x1024 .f32) (h2 : M2.IsWhole)
    (v : S1.Idx → Elt F .i32) (X0 : Vec F S2048x1024 .f32) (X1 : Vec F S20x2048 .f32) (K : PUnit → sProp 𝕄) :
    iprop((owns (c : Thread nD τ) MT' q v ∗ owns (c : Thread nD τ) M0 fullShare X0 ∗ owns (c : Thread nD τ) M1 fullShare X1
            ∗ (∃ X2, owns (c : Thread nD τ) M2 fullShare X2))
          ∗ ((owns (c : Thread nD τ) MT' q v ∗ owns (c : Thread nD τ) M0 fullShare X0 ∗ owns (c : Thread nD τ) M1 fullShare X1
                  ∗ owns (c : Thread nD τ) M2 fullShare (k0_pay1 (stepWord v) X1 X0)) -∗ K ⟨⟩))
      ⊢ wp frame (wpE (defs₀ (F := F)) 𝒱₀ c none) E (cc0__mask_mul_kernel i MT' hT M0 h0 M1 h1 M2 h2) K := by
  rw [cc0__mask_mul_kernel_eq_skeleton]
  unfold cc0__mask_mul_kernel_skel owns smemLoad smemLoadElt
  simp only [Prog.lift, Prog.bind_op, Prog.bind_ret]
  iintro ⟨⟨⟨%fT, %hfT, HT⟩, ⟨%f0, %hf0, H0⟩, ⟨%f1, %hf1, H1⟩, ⟨%X2, %f2, -, H2⟩⟩, Hk⟩
  iapply (wp_load_rect 𝒱₀ (c : Thread nD τ) none E (m := MT') (r := Rect.unit (s := S1) ![0] S1.size inb_S1_S1_0) (View.set_slice_subset _ _)) $$ HT
  iintro HT
  iapply (wp_load_rect 𝒱₀ (c : Thread nD τ) none E (m := M1) (r := Rect.unit (s := S20x2048) ![0, 0] S20x2048.size inb_S20x2048_S20x2048_0_0) (View.set_slice_subset _ _)) $$ H1
  iintro H1
  iapply (wp_load_rect 𝒱₀ (c : Thread nD τ) none E (m := M0) (r := Rect.unit (s := S2048x1024) ![0, 0] S2048x1024.size inb_S2048x1024_S2048x1024_0_0) (View.set_slice_subset _ _)) $$ H0
  iintro H0
  iapply (wp_load_rect 𝒱₀ (c : Thread nD τ) none E (m := M2) (r := Rect.unit (s := S2048x1024) ![0, 0] S2048x1024.size inb_S2048x1024_S2048x1024_0_0) (View.set_slice_subset _ _)) $$ H2
  iintro H2
  iapply (wp_store 𝒱₀ (c : Thread nD τ) none E (m := M2)
    (r := Rect.unit (s := S2048x1024) ![0, 0] S2048x1024.size inb_S2048x1024_S2048x1024_0_0) (Mk := Finset.univ) (View.set_slice_subset _ _)) $$ H2
  iintro H2
  rw [wp_pure]; imodintro
  iapply Hk
  isplitl [HT]
  · iexists fT; isplitr; · ipureintro; exact hfT
    iexact HT
  isplitl [H0]
  · iexists f0; isplitr; · ipureintro; exact hf0
    iexact H0
  isplitl [H1]
  · iexists f1; isplitr; · ipureintro; exact hf1
    iexact H1
  · iexists _; isplitr
    swap; · iexact H2
    ipureintro
    rw [read_store_all M2 zero₂, read_all M0 zero₂, read_all M1 zero₂, read_all MT' zero₁, hf0, hf1, hfT]
    rfl

end Cert.MaskMul
-- ==== Proof.Data.lean ====
/-
  What the arrays and the staging buffers hold: the proof data of the one pipeline, and the kernel body's obligation
  at every grid point. The region enters with the probabilities transposed (`V₀ … main_v0`), the mask as launched and
  the table holding the step; after the body each input buffer still holds its block and the result's buffer holds
  `out`, a parameter here. Blocks at the array's end are cut: past it nothing is said of a buffer.
-/
module

public import proofs.«01_k».proof.Proof.Body
public import proofs.«01_k».proof.Proof.Gen.KernelIdeal.Launch
public import Idealize.ShloMosaic.PureOps.BitExact

@[expose] public section

noncomputable section

namespace Cert.MaskMul

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ)

/-! ## What the region finds -/

/-- The buffers at the region's entry: the launch contents after the two host lines before it. -/
def V₀ (c : Dev nD) : Valuation τ sig (Elt F) :=
  StableHlo.after (List.flatten [hostOps0, hostOps0_1]) fun b => m (c, b)

/-- The table's contents at the region's entry (on the one device). -/
def tbl : pre0.Contents (Elt F) := fun k => V₀ m 0 (Proc.devRef .tc (pre0.ref k))

/-- The tables as the region admits them: there is no condition on them. -/
def adm : (p : Fin 1) → (pcfgs (F := F) p).Adm := fun _ => ⟨tbl m, trivial⟩

/-- The pipeline at those tables. -/
abbrev cfgA : Cfg sig Λ₀ := Pipeline.pin (pcfgs (F := F)) (adm m) 0

/-- The probabilities' block at a point, its part inside the array; -/
def pblk (c : Dev nD) (t : Fin (cfgA m).N) : (((cfgA m).win (0 : Fin 3)).xblock ((cfgA m).grid.coords t)).Idx → Elt F .f32 :=
  (((cfgA m).win (0 : Fin 3)).blk t).view.read (Elt F) (V₀ m c (Proc.devRef .tc main_v0))
/-- the mask's. -/
def mblk (c : Dev nD) (t : Fin (cfgA m).N) : (((cfgA m).win (1 : Fin 3)).xblock ((cfgA m).grid.coords t)).Idx → Elt F .f32 :=
  (((cfgA m).win (1 : Fin 3)).blk t).view.read (Elt F) (V₀ m c (Proc.devRef .tc main_arg1))

/-- The probabilities' staging buffer after its fetch at a point: the block, `d` past the array's end; -/
def pbuf (c : Dev nD) (t : Fin (cfgA m).N) (d : Vec F S2048x1024 .f32) : Vec F S2048x1024 .f32 :=
  ((cfgA m).win (0 : Fin 3)).fill ((cfgA m).grid.coords t) d (pblk m c t)
/-- the mask's. -/
def mbuf (c : Dev nD) (t : Fin (cfgA m).N) (d : Vec F S20x2048 .f32) : Vec F S20x2048 .f32 :=
  ((cfgA m).win (1 : Fin 3)).fill ((cfgA m).grid.coords t) d (mblk m c t)

/-- The proof data: the arrays at the entry contents; after the body the inputs' buffers at their blocks and the
    result's at `out`; the invariant holds the register of the generator and the table; nothing owed; full shares. -/
def dats (out : (c : Dev nD) → Fin (cfgA m).N → Vec F S2048x1024 .f32) (p : Fin 1) (c : Dev nD) :
    Dat τ (Elt F) Unit ℕ (UR sig nD τ) ℕ (Pipeline.pin pcfgs (adm m) p) c where
  A w := V₀ m c (Proc.devRef .tc (Pipeline.arrRef spec0 w))
  after w t := match w with
    | ⟨0, _⟩ => pbuf m c t fun _ => Scalar.ofBits .f32 0#32
    | ⟨1, _⟩ => mbuf m c t fun _ => Scalar.ofBits .f32 0#32
    | ⟨2, _⟩ => out c t
  Φ _ := iprop(Pipeline.ΦA spec0 c ∗ Pipeline.ΦT pre0 (tbl m) c)
  q _ := fullShare
  owed _ := 0

variable (out : (c : Dev nD) → Fin (cfgA m).N → Vec F S2048x1024 .f32)

/-! ## The schedule: every point fetches both inputs and writes the result back -/

/-- The windows at a table of zeros: no index map reads the table, so at any other they are these. -/
abbrev winC : Fin 3 → Window sig grid0 :=
  win0 (F := Bits) ⟨fun k => match k with | 0 => fun _ => (0#32 : BitVec 32), trivial⟩

theorem fetchC : ∀ t : Fin grid0.N, (winC 0).fetch t = true ∧ (winC 1).fetch t = true := by decide +kernel
theorem flushC : ∀ t : Fin grid0.N, (winC 2).flush t = true := by decide +kernel

theorem fetch_0 (t : Fin (cfgA m).N) : ((cfgA m).win (0 : Fin 3)).fetch t = true := (fetchC t).1
theorem fetch_1 (t : Fin (cfgA m).N) : ((cfgA m).win (1 : Fin 3)).fetch t = true := (fetchC t).2
theorem flush_2 (t : Fin (cfgA m).N) : ((cfgA m).win (2 : Fin 3)).flush t = true := flushC t

theorem before_0 (c : Dev nD) (t : Fin (cfgA m).N) (d) : (dats m out 0 c).before (0 : Fin 3) t d = pbuf m c t d := by
  unfold Dat.before; rw [if_pos (fetch_0 m t)]; rfl
theorem before_1 (c : Dev nD) (t : Fin (cfgA m).N) (d) : (dats m out 0 c).before (1 : Fin 3) t d = mbuf m c t d := by
  unfold Dat.before; rw [if_pos (fetch_1 m t)]; rfl

/-! ## The body's obligation -/

/-- The table as the region's invariant holds it, as the one buffer it is. -/
theorem table_eq (c : Dev nD) :
    (Pipeline.ΦT pre0 (tbl m) c : sProp 𝕄)
      = (((c : Thread nD τ).loc main_v1) ↦{fullShare.right} (tbl m (0 : Fin 1))) := by
  unfold Pipeline.ΦT Pipeline.prefHeld
  rw [show (Finset.univ : Finset (Fin 1)) = {(0 : Fin 1)} from by decide, bigSep_singleton]
  rfl

/-- The step at the region's entry. -/
def step : Elt F .i32 := stepWord (F := F) (tbl m (0 : Fin 1))

/-- The vector the body stores at a point, from what its two input buffers hold: `d0`, `d1` past the array's end. -/
def stored (c : Dev nD) (t : Fin (cfgA m).N) (d0 : Vec F S2048x1024 .f32) (d1 : Vec F S20x2048 .f32) : Vec F S2048x1024 .f32 :=
  k0_pay1 (step m) (mbuf m c t d1) (pbuf m c t d0)

/-- The body at a point, over the staging buffers the pipeline gives it there. -/
theorem point_triple (c : Dev nD) (t : Fin (cfgA m).N) (d0 : Vec F S2048x1024 .f32) (d1 : Vec F S20x2048 .f32) (K : PUnit → sProp 𝕄) :
    iprop((Pipeline.ΦT pre0 (tbl m) c ∗ owns (c : Thread nD τ) (stage0_0 ((cfgA m).slots t (0 : Fin 3))) fullShare (pbuf m c t d0)
            ∗ owns (c : Thread nD τ) (stage0_1 ((cfgA m).slots t (1 : Fin 3))) fullShare (mbuf m c t d1)
            ∗ (∃ X2, owns (c : Thread nD τ) (stage0_2 ((cfgA m).slots t (2 : Fin 3))) fullShare X2))
          ∗ ((Pipeline.ΦT pre0 (tbl m) c ∗ owns (c : Thread nD τ) (stage0_0 ((cfgA m).slots t (0 : Fin 3))) fullShare (pbuf m c t d0)
            ∗ owns (c : Thread nD τ) (stage0_1 ((cfgA m).slots t (1 : Fin 3))) fullShare (mbuf m c t d1)
            ∗ owns (c : Thread nD τ) (stage0_2 ((cfgA m).slots t (2 : Fin 3))) fullShare (stored m c t d0 d1)) -∗ K ⟨⟩))
      ⊢ wp frame (wpE (defs₀ (F := F)) 𝒱₀ c none) Set.univ (defs₀ .tc (cfgA m).body ((cfgA m).bodyArgs t ((cfgA m).slots t))) K := by
  have hT : (owns (c : Thread nD τ) (Memref.whole main_v1) fullShare.right (tbl m (0 : Fin 1)) : sProp 𝕄)
      = Pipeline.ΦT pre0 (tbl m) c := by
    rw [table_eq]
    exact owns_whole (c : Thread nD τ) main_v1 fullShare.right (tbl m (0 : Fin 1))
  rw [← hT]
  exact body_triple c Set.univ ((cfgA m).grid.coords t) fullShare.right (Memref.whole main_v1) (Memref.isWhole_whole _)
    (stage0_0 ((cfgA m).slots t (0 : Fin 3))) (hstage0_0 _) (stage0_1 ((cfgA m).slots t (1 : Fin 3))) (hstage0_1 _)
    (stage0_2 ((cfgA m).slots t (2 : Fin 3))) (hstage0_2 _) (tbl m (0 : Fin 1)) (pbuf m c t d0) (mbuf m c t d1) K

/-- What an input's buffer holds is its block filled out, as the obligation asks it back: on the part inside the array. -/
theorem pbuf_left (c : Dev nD) (t : Fin (cfgA m).N) (d d' : Vec F S2048x1024 .f32) :
    ((cfgA m).win (0 : Fin 3)).fill ((cfgA m).grid.coords t) d (((cfgA m).win (0 : Fin 3)).cut ((cfgA m).grid.coords t) (pbuf m c t d'))
      = pbuf m c t d := by
  unfold pbuf; rw [Window.cut_fill]
theorem mbuf_left (c : Dev nD) (t : Fin (cfgA m).N) (d d' : Vec F S20x2048 .f32) :
    ((cfgA m).win (1 : Fin 3)).fill ((cfgA m).grid.coords t) d (((cfgA m).win (1 : Fin 3)).cut ((cfgA m).grid.coords t) (mbuf m c t d'))
      = mbuf m c t d := by
  unfold mbuf; rw [Window.cut_fill]

/-- A point's run, its result's buffer handed back as any `R` that the stored vector is enough for: the common part of
    the two obligations below. -/
theorem point_core (c : Dev nD) (t : Fin (cfgA m).N) (R : sProp 𝕄)
    (hR : ∀ d0 d1, owns (c : Thread nD τ) (stage0_2 ((cfgA m).slots t (2 : Fin 3))) fullShare (stored m c t d0 d1) ⊢ R) :
    iprop((dats m out 0 c).Φ t.castSucc ∗ (dats m out 0 c).owesAt () t.castSucc
        ∗ (∃ d, owns (c : Thread nD τ) (stage0_0 ((cfgA m).slots t (0 : Fin 3))) fullShare ((dats m out 0 c).before (0 : Fin 3) t d))
        ∗ (∃ d, owns (c : Thread nD τ) (stage0_1 ((cfgA m).slots t (1 : Fin 3))) fullShare ((dats m out 0 c).before (1 : Fin 3) t d))
        ∗ (∃ X, owns (c : Thread nD τ) (stage0_2 ((cfgA m).slots t (2 : Fin 3))) fullShare X))
      ⊢ wp frame (wpE (defs₀ (F := F)) 𝒱₀ c none) Set.univ (defs₀ .tc (cfgA m).body ((cfgA m).bodyArgs t ((cfgA m).slots t))) fun _ =>
        iprop((dats m out 0 c).Φ t.succ ∗ (dats m out 0 c).owesAt () t.succ
          ∗ (∃ d, owns (c : Thread nD τ) (stage0_0 ((cfgA m).slots t (0 : Fin 3))) fullShare
              (((cfgA m).win (0 : Fin 3)).fill ((cfgA m).grid.coords t) d (((cfgA m).win (0 : Fin 3)).cut ((cfgA m).grid.coords t) ((dats m out 0 c).after (0 : Fin 3) t))))
          ∗ (∃ d, owns (c : Thread nD τ) (stage0_1 ((cfgA m).slots t (1 : Fin 3))) fullShare
              (((cfgA m).win (1 : Fin 3)).fill ((cfgA m).grid.coords t) d (((cfgA m).win (1 : Fin 3)).cut ((cfgA m).grid.coords t) ((dats m out 0 c).after (1 : Fin 3) t))))
          ∗ R) := by
  rw [show (dats m out 0 c).Φ t.succ = iprop(Pipeline.ΦA spec0 c ∗ Pipeline.ΦT pre0 (tbl m) c) from rfl,
    show (dats m out 0 c).Φ t.castSucc = iprop(Pipeline.ΦA spec0 c ∗ Pipeline.ΦT pre0 (tbl m) c) from rfl,
    show (dats m out 0 c).owesAt () t.succ = (dats m out 0 c).owesAt () t.castSucc from rfl]
  iintro ⟨⟨HA, HT⟩, Ho, ⟨%d0, H0⟩, ⟨%d1, H1⟩, H2⟩
  rw [before_0 m out c t d0, before_1 m out c t d1]
  iapply (point_triple m c t d0 d1 _)
  isplitl [HT H0 H1 H2]
  · isplitl [HT]; · iexact HT
    isplitl [H0]; · iexact H0
    isplitl [H1]; · iexact H1
    iexact H2
  iintro ⟨HT, H0, H1, H2⟩
  isplitl [HA HT]
  · isplitl [HA] <;> iassumption
  isplitl [Ho]; · iexact Ho
  isplitl [H0]
  · iexists d0
    dsimp only [dats]
    rw [pbuf_left]; iexact H0
  isplitl [H1]
  · iexists d1
    dsimp only [dats]
    rw [mbuf_left]; iexact H1
  · iapply (hR d0 d1); iexact H2

/-- The windows whose contents a frame does not name: the result's. -/
abbrev fgt : Fin 3 → Bool := fun w => w == 2

/-- The obligation with the result's buffer left at anything, for any float values. -/
theorem body_forget (c : Dev nD) : BodyObligationLoose (dats m out 0 c) (defs₀ (F := F)) 𝒱₀ () Set.univ fgt := fun t => by
  rw [bigSep_W0, bigSep_W0]
  exact point_core m out c t iprop(∃ X, owns (c : Thread nD τ) (stage0_2 ((cfgA m).slots t (2 : Fin 3))) fullShare X)
    fun d0 d1 => by iintro H; iexists _; iexact H

/-- The obligation with the result's buffer left at `out` on the rows inside the array, given that the stored vector is
    `out` there whatever the input buffers hold past the array's end. -/
theorem body_exact (hout : ∀ c t d0 d1,
      ((cfgA m).win (2 : Fin 3)).cut ((cfgA m).grid.coords t) (out c t)
        = ((cfgA m).win (2 : Fin 3)).cut ((cfgA m).grid.coords t) (stored m c t d0 d1)) (c : Dev nD) :
    BodyObligationLoose (dats m out 0 c) (defs₀ (F := F)) 𝒱₀ () Set.univ := fun t => by
  rw [bigSep_W0, bigSep_W0]
  refine (sep_mono .rfl (sep_mono .rfl (sep_mono .rfl (sep_mono .rfl ?_)))).trans (point_core m out c t _ fun d0 d1 => ?_)
  · iintro ⟨%d, H⟩; iexists _; iexact H
  · iintro H
    iexists (stored m c t d0 d1)
    dsimp only [dats]
    rw [hout c t d0 d1, Window.fill_cut]; iexact H

end Cert.MaskMul
-- ==== Proof.Run.lean ====
/-
  The whole program's run, for any float values: the two host lines before the region, the region, and the transpose
  after it. `frame_run` says nothing of the result; `value_run` says the region's array is what the write-backs of `out`
  build, and the result its transpose.
-/
module

public import proofs.«01_k».proof.Proof.Data
public import Idealize.ShloMosaic.Lib.Claim

@[expose] public section

noncomputable section

namespace Cert.MaskMul

open Cert.KernelIdeal Cert.KernelIdeal.Gen
open Idealize.ShloMosaic
open Idealize.ShloMosaic.TcCoe
open Idealize.SL Idealize.SL.Sem
open Idealize.ShloMosaic.Rounds
open Idealize.ShloMosaic.Pipeline (Dat Cfg Window BodyObligationLoose)

variable {F : FTy → Type} [FloatOps F]

variable (m : (ℓ : Loc nD τ sig) → Buf (Elt F) ℓ) (g : Dev nD → PrngReg)
variable (out : (c : Dev nD) → Fin (cfgA m).N → Vec F S2048x1024 .f32)

/-! ## The arguments at the region's entry -/

/-- What neither line before the region writes is as launched. -/
theorem V₀_of_ne (c : Dev nD) (b : Ref sig .tc) (hb : b ∉ [main_v0, main_v1]) :
    V₀ m c (Proc.devRef .tc b) = m ((c : Thread nD τ).loc b) :=
  StableHlo.after_of_writes_sub (W := [main_v0, main_v1]) _ _ (StableHlo.forall_writes_sub_of_map rfl) hb

/-! ## The lines after the region: one, which reads the region's array and writes the result -/

/-- A property of the one line after the region is one of every line after it. -/
theorem last_line (p : HloOp τ sig (Elt F) → Prop)
    (h : p (StableHlo.unary main_v2 main_v3 (transpose S1024x100000 [1, 0] · transposes_S100000x1024_S1024x100000_1_0))) :
    ∀ ops ∈ [hostOps1 (F := F)], ∀ op ∈ ops, p op := by
  intro ops hops op hop
  rw [List.mem_singleton] at hops; subst hops
  rw [List.mem_singleton] at hop; subst hop
  exact h

theorem last_sub : ∀ ops ∈ [hostOps1 (F := F)], ∀ op ∈ ops, op.bufs ⊆ Pipeline.tailRefs sig pre0 spec0 :=
  last_line _ <| Pipeline.sub_tailRefs pre0 spec0 _ (StableHlo.unary_bufs_sub ..) <| by
    intro k; fin_cases k
    simp only [StableHlo.unary_bufs, Finset.mem_insert, Finset.mem_singleton, not_or]
    exact ⟨StableHlo.devRef_ne_of_ne (by decide), StableHlo.devRef_ne_of_ne (by decide)⟩

theorem last_fresh : ∀ ops ∈ [hostOps1 (F := F)], ∀ op ∈ ops, op.fresh = ∅ := last_line _ rfl

theorem last_keeps : ∀ ops ∈ [hostOps1 (F := F)], ∀ op ∈ ops, ∀ w, Proc.devRef .tc (Pipeline.arrRef spec0 w) ∉ op.writes :=
  last_line _ <| by
    intro w
    rw [StableHlo.unary_writes, Finset.mem_singleton]
    revert w
    exact fun w => StableHlo.devRef_ne_of_ne ((by decide : ∀ w, Pipeline.arrRef spec0 w ≠ main_v3) w)

theorem last_writes : ∀ ops ∈ [hostOps1 (F := F)], ∀ op ∈ ops, ∀ b : Ref sig .tc,
    Proc.devRef .tc b ∈ op.writes → b ∈ ({main_v3} : Finset (Ref sig .tc)) :=
  last_line _ <| by
    intro b hb
    rw [StableHlo.unary_writes, Finset.mem_singleton] at hb
    exact Finset.mem_singleton.2 (Proc.devRef_injective _ hb)

/-! ## The runs -/

/-- The buffers the region stages nothing of, that the claims read. -/
theorem rest_arg0 : main_arg0 ∈ Pipeline.restRefs sig spec0 \ {main_v3} := by decide
theorem rest_arg2 : main_arg2 ∈ Pipeline.restRefs sig spec0 \ {main_v3} := by decide
theorem rest_v3 : main_v3 ∈ Pipeline.restRefs sig spec0 := by decide

/-- The program is its lines before the region, the region, and the line after. -/
theorem main_around : Pipeline.HMainPK (Ix := Unit) (Name := ℕ) (U := UR sig nD τ) (Lvl := ℕ) (pcfgs (F := F)) 0 (defs₀ (F := F)) 𝒱₀ m (main (F := F))
    (fun c b => V₀ m c (Proc.devRef .tc b)) (fun _ => Pipeline.chain ([hostOps1].map StableHlo.seq)) :=
  Pipeline.hmainP_around pcfgs 0 defs₀ 𝒱₀ m main [hostOps0, hostOps0_1] [hostOps1]
    (by simp only [List.Forall]; exact ⟨hostOps0_sub, hostOps0_1_sub⟩) (by simp only [List.Forall]; exact ⟨rfl, rfl⟩) main_chain

/-- The table at the region's entry is the one the proof data names. -/
theorem table_entry (c : Dev nD) (k : Fin 1) : V₀ m c (Proc.devRef .tc (pre0.ref k)) = tbl m k := by
  rw [Subsingleton.elim c 0]; rfl

set_option backward.isDefEq.respectTransparency.types false in
/-- Every run ends, the arguments as launched and every counter at zero. -/
theorem frame_run : θ_run (defs (F := F)) (onTc (τ := τ) (main (F := F))) ⟨m, fun _ => 0, g⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0 :=
  let out : (c : Dev nD) → Fin (cfgA m).N → Vec F S2048x1024 .f32 := fun _ _ _ => Scalar.ofBits .f32 0#32
  Pipeline.θ_run_frameP_around_T_forget (pcfgs (F := F)) (adm m) (dats m out) 0 launch0 defs₀ 𝒱₀ fgt {main_v3} m g main
    (body_forget m out) (fun c => (dats m out 0 c).share_full fun _ => rfl) (fun _ _ => rfl) (V₀ m) [hostOps1]
    last_sub last_fresh last_keeps last_writes (main_around m) (fun _ _ => rfl) (table_entry m) (fun _ _ => rfl) _
    fun r hr => ⟨fun c =>
      ⟨((hr.1 c).2 main_arg0 rest_arg0).trans (V₀_of_ne m c main_arg0 (by decide)),
       (Pipeline.RDat.FramePostR.arr_in hr.1 c (1 : Fin 3) rfl).trans (V₀_of_ne m c main_arg1 (by decide)),
       ((hr.1 c).2 main_arg2 rest_arg2).trans (V₀_of_ne m c main_arg2 (by decide))⟩, hr.2⟩

set_option backward.isDefEq.respectTransparency.types false in
/-- The run with the result: the transpose of the array the write-backs of `out` build. -/
theorem value_run (hout : ∀ c t d0 d1,
      ((cfgA m).win (2 : Fin 3)).cut ((cfgA m).grid.coords t) (out c t)
        = ((cfgA m).win (2 : Fin 3)).cut ((cfgA m).grid.coords t) (stored m c t d0 d1)) :
    θ_run (defs (F := F)) (onTc (τ := τ) (main (F := F))) ⟨m, fun _ => 0, g⟩ fun r => ∀ c : Dev nD,
      r.2.mem ((c : Thread nD τ).loc main_v3)
        = transpose S1024x100000 [1, 0] ((dats m out 0 c).arrAt (2 : Fin 3) (cfgA m).N : S100000x1024.Idx → Elt F .f32) transposes_S100000x1024_S1024x100000_1_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Pipeline.θ_run_frameP_around (pcfgs (F := F)) (adm m) (dats m out) 0 launch0 defs₀ 𝒱₀ m g main
    (body_exact m out hout) (fun c => (dats m out 0 c).share_full fun _ => rfl) (fun _ _ => rfl) (V₀ m) [hostOps1]
    last_sub last_fresh last_keeps (main_around m) (fun _ _ => rfl) (table_entry m) (fun _ _ => rfl) _
    fun r hr c => by
      have kept : ∀ b : Ref sig .tc, b ≠ main_v3 → (∀ w, Pipeline.arrRef spec0 w ≠ b) → b ∈ Pipeline.restRefs sig spec0 →
          r.2.mem ((c : Thread nD τ).loc b) = V₀ m c (Proc.devRef .tc b) := fun b hne harr hb => by
        refine ((hr.1 c).2 b hb).trans ?_
        unfold Pipeline.afterTail
        rw [show List.flatten [hostOps1 (F := F)] = hostOps1 from rfl, StableHlo.after_cons, StableHlo.after_nil,
          StableHlo.unary_result_ne (h := hne)]
        exact Pipeline.withArrays_of_ne spec0 c _ _ b harr
      refine ⟨?_, (kept main_arg0 (by decide) (by decide) (by decide)).trans (V₀_of_ne m c main_arg0 (by decide)), ?_,
        (kept main_arg2 (by decide) (by decide) (by decide)).trans (V₀_of_ne m c main_arg2 (by decide))⟩
      · refine ((hr.1 c).2 main_v3 rest_v3).trans ?_
        unfold Pipeline.afterTail
        rw [show List.flatten [hostOps1 (F := F)] = hostOps1 from rfl, StableHlo.after_cons, StableHlo.after_nil,
          StableHlo.unary_result]
        congr 1
        exact Pipeline.withArrays_arr spec0 winFacts0.arr_inj c _ _ (2 : Fin 3)
      · exact ((hr.1 c).1 (1 : Fin 3)).trans (((dats m out 0 c).arrAt_in (1 : Fin 3) rfl _).trans (V₀_of_ne m c main_arg1 (by decide)))

end Cert.MaskMul
-- ==== Proof.Frames.lean ====
/-
  The frames of the three programs. The kernel over machine words and the kernel over ideal values are the same text, so
  the one run proved for any float values serves both; the reference is host lines alone.
-/
module

public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Proof.Gen.Pre_step_names_row
public import Idealize.ShloMosaic.PureOps.BitExact
public import Idealize.ShloMosaic.Lib.Claim
public import proofs.«01_k».proof.Defs

@[expose] public section

noncomputable section

namespace Cert.MaskMul

open Idealize.ShloMosaic

section Same

variable {F : FTy → Type} [FloatOps F]

/-- The two programs' bodies are one text, -/
theorem body_same : Cert.Kernel.cc0__mask_mul_kernel (F := F) = Cert.KernelIdeal.cc0__mask_mul_kernel (F := F) := rfl

/-- so are the tables of what is called by name, -/
theorem defs₀_same : Cert.Kernel.defs₀ (F := F) = Cert.KernelIdeal.defs₀ (F := F) :=
  congrArg Defs.onTc (funext fun l => funext fun a => by
    obtain ⟨l, hl⟩ := l
    cases l with
    | zero => exact congrFun (congrFun (congrFun (congrFun (congrFun (congrFun (congrFun (congrFun (congrFun body_same _) _) _) _) _) _) _) _) _
    | succ l => omega)

/-- with the region's own entries added. -/
theorem defs_same : Cert.Kernel.defs (F := F) = Cert.KernelIdeal.defs (F := F) :=
  congrArg (Pipeline.defs _) defs₀_same

end Same

/-- The kernel over machine words runs to its end and keeps its arguments. -/
theorem kernel_frame : Cert.quiescent_Kernel (hKernel := Cert.Kernel.Gen.facts) := fun m g _ => by
  rw [defs_same]
  exact frame_run (F := Bits) m g

/-- So does the kernel over ideal values, -/
theorem ideal_frame : Cert.quiescent_KernelIdeal (hKernelIdeal := Cert.KernelIdeal.Gen.facts) :=
  fun m g _ => frame_run (F := Ideal) m g

/-- and the reference, which has no counter at all. -/
theorem reference_frame : Cert.quiescent_ReferenceIdeal (hReferenceIdeal := Cert.ReferenceIdeal.Gen.facts) := fun m g _ =>
  θ_run_mono (Cert.ReferenceIdeal.Value.run (F := Ideal) m g) fun r h =>
    ⟨fun c => (h c).2, sem_eq_zero_of_no_sems (by decide) r.2⟩

end Cert.MaskMul
-- ==== Proof.Words.lean ====
/-
  The step as a row of the mask: the precondition in numbers, and the two ways the programs pick that row. The kernel
  adds up a column with every entry but the row's replaced by zero; the reference takes the row by its index.
-/
module

public import proofs.«01_k».proof.Proof.Gen.ReferenceIdeal
public import proofs.«01_k».proof.Proof.Gen.Pre_step_names_row
public import Idealize.ShloMosaic.Lib.Pointwise
public import Idealize.ShloMosaic.Lib.Tactic.WordOmega

@[expose] public section

noncomputable section

namespace Cert.MaskMul

open Idealize.ShloMosaic

/-- The step names a row of the mask: it is 1 up to 20. -/
def InRange (s : BitVec 32) : Prop := 1 ≤ s.toNat ∧ s.toNat ≤ 20

/-- The row a step names. -/
def rowOf (s : BitVec 32) : Fin 20 := ⟨(s.toNat - 1) % 20, Nat.mod_lt _ (by decide)⟩

theorem rowOf_val {s : BitVec 32} (hs : InRange s) : (rowOf s).val = s.toNat - 1 :=
  Nat.mod_eq_of_lt (by have := hs.1; have := hs.2; omega)

/-- One less than the step is the row's number. -/
theorem sub_one {s : BitVec 32} (hs : InRange s) : IntOp.subi s 1#32 = BitVec.ofNat 32 (rowOf s).val := by
  rw [rowOf_val hs]
  obtain ⟨h1, h2⟩ := hs
  apply BitVec.eq_of_toNat_eq
  show (s - 1#32).toNat = _
  rw [BitVec.toNat_sub, BitVec.toNat_ofNat, BitVec.toNat_ofNat]
  omega

/-- The precondition says so of the one step. -/
theorem inRange_of_pre (P : FVec Ideal Pre_step_names_row.S1024x100000 .f32) (M : FVec Ideal Pre_step_names_row.S20x100000 .f32)
    (s : IVec Pre_step_names_row.S_ 32) (h : Pre_step_names_row.fn (F := Ideal) P M s = fun _ => 1#1) (i : Pre_step_names_row.S_.Idx) :
    InRange (s i) := by
  have h' := congrFun h i
  revert h'
  pointwise [Pre_step_names_row.fn]
  generalize s i = w
  intro h'
  unfold InRange
  word_omega

/-- Adding up a family of twenty with all but the step's entry replaced by zero gives that entry. -/
theorem pick_sum {s : BitVec 32} (hs : InRange s) (f : Fin 20 → EReal) :
    ∑ k : Fin 20, Scalar.select (IntOp.cmpi .eq (BitVec.ofNat 32 k.val) (Scalar.subi s 1#32)) (f k) 0 = f (rowOf s) := by
  rw [Finset.sum_eq_single (rowOf s)]
  · rw [show Scalar.subi s 1#32 = BitVec.ofNat 32 (rowOf s).val from sub_one hs]
    rw [IntOp.cmpi_eq_self]; rfl
  · intro k _ hk
    rw [show Scalar.subi s 1#32 = BitVec.ofNat 32 (rowOf s).val from sub_one hs]
    have hne : (BitVec.ofNat 32 k.val) ≠ BitVec.ofNat 32 (rowOf s).val := fun e => hk (Fin.ext (by
      have := congrArg BitVec.toNat e
      rw [BitVec.toNat_ofNat, BitVec.toNat_ofNat] at this
      have := k.isLt; have := (rowOf s).isLt
      omega))
    have hc : IntOp.cmpi .eq (BitVec.ofNat 32 k.val) (BitVec.ofNat 32 (rowOf s).val) = 0#1 := by
      show BitVec.ofBool (BitVec.ofNat 32 k.val == BitVec.ofNat 32 (rowOf s).val) = 0#1
      rw [beq_eq_false_iff_ne.2 hne]; rfl
    rw [hc]; rfl
  · intro h; exact absurd (Finset.mem_univ _) h

/-- The row taken by an index in range: at a column, the row's entry there. -/
theorem take_row (x : FVec Ideal ReferenceIdeal.S20x100000 .f32) (ix : IVec ReferenceIdeal.S1 32) (k : Fin 20)
    (h : ∀ i, ix i = BitVec.ofNat 32 k.val) (v : ReferenceIdeal.S100000.Idx) :
    Host.gather ReferenceIdeal.gather_S20x100000_S1_S100000_0_0_n_n_0_0_1100000 x ix v = x (ix2 k (v 0)) := by
  unfold Host.gather
  refine congrArg x (funext fun a => Fin.ext ?_)
  match a with
  | ⟨0, _⟩ =>
    show min (ix _).toInt.toNat (20 - 1) + 0 + 0 = k.val
    rw [h]
    have hk := k.isLt
    rw [(by decide : ∀ k : Fin 20, (BitVec.ofNat 32 k.val).toInt = k.val) k]; omega
  | ⟨1, _⟩ =>
    show 0 + 0 + (v 0).val = (v 0).val
    omega

end Cert.MaskMul
-- ==== Proof.Reference.lean ====
/-
  What the reference computes: at a row and a column, the probability times the mask's entry in the step's row.
-/
module

public import proofs.«01_k».proof.Proof.Words
public import proofs.«01_k».proof.Proof.Gen.ReferenceIdeal.Run
public import Idealize.ShloMosaic.Lib.Claim

@[expose] public section

noncomputable section

namespace Cert.MaskMul

open Idealize.ShloMosaic Idealize.ShloMosaic.TcCoe Idealize.SL.Sem Cert.ReferenceIdeal

/-- The product both programs compute: every row of the probabilities times the step's row of the mask. -/
def product (P : FVec Ideal S1024x100000 .f32) (M : FVec Ideal S20x100000 .f32) (s : IVec S_ 32) : FVec Ideal S1024x100000 .f32 :=
  fun j => P j * M (ix2 (rowOf (s ix0)) (j 1))

/-- The row's number is not negative, so an index counted from the end is not what it is. -/
theorem wrap_row : ∀ k : Fin 20, Scalar.select (IntOp.cmpi .slt (BitVec.ofNat 32 k.val) 0#32)
    (IntOp.addi (BitVec.ofNat 32 k.val) 20#32) (BitVec.ofNat 32 k.val) = BitVec.ofNat 32 k.val := by decide

/-- The row's number passes the check that it is one of the mask's. -/
theorem row_in_mask : ∀ k : Fin 20, IntOp.andi (IntOp.cmpi .sge (BitVec.ofNat 32 k.val) 0#32)
    (IntOp.cmpi .sle (BitVec.ofNat 32 k.val) 19#32) = 1#1 := by decide

/-- The reference's run: its result is the product. -/
theorem reference_run (m : (ℓ : Loc nD τ sig) → Buf (Elt Ideal) ℓ) (g : Dev nD → PrngReg)
    (hs : ∀ c : Dev nD, InRange ((m ((c : Thread nD τ).loc main_arg2) : IVec S_ 32) ix0)) :
    θ_run defs (onTc (τ := τ) (main (F := Ideal))) ⟨m, fun _ => 0, g⟩ fun r => ∀ c : Dev nD,
      r.2.mem ((c : Thread nD τ).loc main_v4)
        = product (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine θ_run_mono (Value.run (F := Ideal) m g) fun r h c => ⟨(h c).1.trans ?_, (h c).2⟩
  have hs := hs c
  generalize m ((c : Thread nD τ).loc main_arg0) = P
  generalize m ((c : Thread nD τ).loc main_arg1) = M
  generalize m ((c : Thread nD τ).loc main_arg2) = s at hs ⊢
  funext j
  have hw := sub_one hs
  have hix : ∀ i, broadcastInDim S1 ![] Gen.bcast_S_S1 (select (cmpi .slt (subi s (constantI S_ 32 1#32)) (constantI S_ 32 0#32))
      (addi (subi s (constantI S_ 32 1#32)) (constantI S_ 32 20#32)) (subi s (constantI S_ 32 1#32))) i
        = BitVec.ofNat 32 (rowOf (s ix0)).val := fun i => by
    pointwise
    rw [hw]; exact wrap_row _
  pointwise [product]
  rw [take_row M _ _ hix, hw, wrap_row, row_in_mask]
  rfl

end Cert.MaskMul
-- ==== Proof.Value.lean ====
/-
  What the kernel computes over the ideal values. A stored entry is the probability there times the entry of the step's
  row above it, whatever the staging buffers hold past the array's end; so the region's array is that product over the
  transposed probabilities, and the result, its transpose, is the product the reference computes.
-/
module

public import proofs.«01_k».proof.Proof.Run
public import proofs.«01_k».proof.Proof.Reference
public import Idealize.ShloMosaic.Lib.Pipeline.ValueKit

@[expose] public section

noncomputable section

namespace Cert.MaskMul

open Cert.KernelIdeal Cert.KernelIdeal.Gen
open Idealize.ShloMosaic
open Idealize.ShloMosaic.TcCoe
open Idealize.SL Idealize.SL.Sem
open Idealize.ShloMosaic.Pipeline (Dat Cfg Window)

/-- An entry of the vector a block computes: the probability times the mask's entry in the step's row. -/
theorem pay_at {s : BitVec 32} (hs : InRange s) (X1 : Vec Ideal S20x2048 .f32) (X0 : Vec Ideal S2048x1024 .f32) (y : S2048x1024.Idx) :
    k0_pay1 (F := Ideal) s X1 X0 y = X0 y * X1 (ix2 (rowOf s) (y 0)) := by
  pointwise [k0_pay1]
  rw [pick_sum hs (fun k => X1 (ix2 k (y 0)))]

variable (m : (ℓ : Loc nD τ sig) → Buf (Elt Ideal) ℓ)

/-! ## What the region finds, in the launch contents -/

/-- The probabilities enter transposed. -/
theorem entry_probs (c : Dev nD) :
    V₀ m c (Proc.devRef .tc main_v0)
      = (transpose S100000x1024 [1, 0] (m ((c : Thread nD τ).loc main_arg0) : S1024x100000.Idx → EReal) transposes_S1024x100000_S100000x1024_1_0
          : S100000x1024.Idx → EReal) := by
  unfold V₀
  rw [show List.flatten [hostOps0 (F := Ideal), hostOps0_1] = hostOps0 ++ hostOps0_1 from rfl]
  simp only [List.cons_append, List.nil_append, StableHlo.after_cons, StableHlo.after_nil]
  simp only [StableHlo.TRef.unary]
  rw [StableHlo.unary_result_ne (h := by decide), StableHlo.unary_result]

/-- The table enters as the step's one word. -/
theorem entry_table (c : Dev nD) :
    V₀ m c (Proc.devRef .tc main_v1)
      = (broadcastInDim S1 ![] bcast_S_S1 (m ((c : Thread nD τ).loc main_arg2) : IVec S_ 32) : IVec S1 32) := by
  unfold V₀
  rw [show List.flatten [hostOps0 (F := Ideal), hostOps0_1] = hostOps0 ++ hostOps0_1 from rfl]
  simp only [List.cons_append, List.nil_append, StableHlo.after_cons, StableHlo.after_nil]
  simp only [StableHlo.TRef.unary]
  rw [StableHlo.unary_result, StableHlo.unary_result_ne (h := by decide)]
  rfl

/-- The step at the region's entry is the launched one. -/
theorem step_eq (c : Dev nD) : step m = (m ((c : Thread nD τ).loc main_arg2) : IVec S_ 32) ix0 := by
  rw [Subsingleton.elim c 0]
  refine (congrFun (entry_table m 0) _).trans ?_
  exact congrArg (m ((0 : Dev nD).tc.loc main_arg2)) (funext fun a => a.elim0)

/-! ## Where the blocks sit -/

/-- A point's block on the long axis is the one of its number, the mask's as the result's. -/
theorem index_facts : ∀ t : Fin grid0.N, (winC 1).index t = ![0, t.val] ∧ (winC 2).index t = ![t.val, 0] := by decide +kernel

/-- The mask's block has all twenty rows, and the three blocks are cut alike on the long axis. -/
theorem size_facts : ∀ t : Fin grid0.N, (winC 1).xsize (grid0.coords t) (0 : Fin 2) = 20
    ∧ (winC 2).xsize (grid0.coords t) (0 : Fin 2) = (winC 1).xsize (grid0.coords t) (1 : Fin 2)
    ∧ (winC 2).xsize (grid0.coords t) = (winC 0).xsize (grid0.coords t) := by decide +kernel

/-- The index of the result's block at a point, in its part inside the array. -/
abbrev OutIdx (t : Fin (cfgA m).N) : Type := (((cfgA m).win (2 : Fin 3)).xblock ((cfgA m).grid.coords t)).Idx

/-- The mask's entry in row `r` above an entry of the result's block: it is inside the array too. -/
def above (t : Fin (cfgA m).N) (r : Fin 20) (x : OutIdx m t) : (((cfgA m).win (1 : Fin 3)).xblock ((cfgA m).grid.coords t)).Idx :=
  fun a => match a with
    | ⟨0, _⟩ => ⟨r.val, r.isLt.trans_eq (size_facts t).1.symm⟩
    | ⟨1, _⟩ => ⟨(x (0 : Fin 2)).val, (x (0 : Fin 2)).isLt.trans_eq (size_facts t).2.1⟩

/-- The probability at an entry of the result's block. -/
def under (t : Fin (cfgA m).N) (x : OutIdx m t) : (((cfgA m).win (0 : Fin 3)).xblock ((cfgA m).grid.coords t)).Idx :=
  fun a => ⟨(x a).val, (x a).isLt.trans_eq (congrFun (size_facts t).2.2 a)⟩

/-- What the body stores at an entry inside the array: both factors are read inside the array. -/
theorem stored_at (hs : InRange (step m)) (c : Dev nD) (t : Fin (cfgA m).N) (d0 : Vec Ideal S2048x1024 .f32) (d1 : Vec Ideal S20x2048 .f32)
    (x : OutIdx m t) :
    stored m c t d0 d1 (((cfgA m).win (2 : Fin 3)).xinj ((cfgA m).grid.coords t) x)
      = (pblk m c t (under m t x) : EReal) * mblk m c t (above m t (rowOf (step m)) x) := by
  unfold stored
  rw [pay_at hs]
  congr 1
  · exact ((cfgA m).win (0 : Fin 3)).fill_xinj _ d0 (pblk m c t) (under m t x)
  · refine Eq.trans (congrArg (mbuf m c t d1) (funext fun a => ?_))
      (((cfgA m).win (1 : Fin 3)).fill_xinj _ d1 (mblk m c t) (above m t (rowOf (step m)) x))
    match a with
    | ⟨0, _⟩ => rfl
    | ⟨1, _⟩ => rfl

/-- What the body leaves in the result's buffer: what it stores over buffers at zero past the array's end. -/
def left (c : Dev nD) (t : Fin (cfgA m).N) : Vec Ideal S2048x1024 .f32 :=
  stored m c t (fun _ => (0 : EReal)) fun _ => (0 : EReal)

theorem left_cut (hs : InRange (step m)) (c : Dev nD) (t : Fin (cfgA m).N) (d0 : Vec Ideal S2048x1024 .f32) (d1 : Vec Ideal S20x2048 .f32) :
    ((cfgA m).win (2 : Fin 3)).cut ((cfgA m).grid.coords t) (left m c t)
      = ((cfgA m).win (2 : Fin 3)).cut ((cfgA m).grid.coords t) (stored m c t d0 d1) :=
  funext fun x => (stored_at m hs c t _ _ x).trans (stored_at m hs c t d0 d1 x).symm

/-! ## The region's array and the result -/

/-- The product with the long axis first, as the region computes it. -/
def productT (P : S100000x1024.Idx → EReal) (M : S20x100000.Idx → EReal) (r : Fin 20) : S100000x1024.Idx → EReal :=
  fun j => P j * M (ix2 r (j 0))

/-- The region's array after the last point. -/
theorem array_eq (hs : InRange (step m)) (c : Dev nD) :
    (dats m (left m) 0 c).arrAt (2 : Fin 3) (cfgA m).N
      = productT (V₀ m c (Proc.devRef .tc main_v0)) (V₀ m c (Proc.devRef .tc main_arg1)) (rowOf (step m)) := by
  refine (dats m (left m) 0 c).arrAt_eq_of_covers (2 : Fin 3) _ (by decide +kernel : (winC 2).Covers) fun t _ x => ?_
  refine (stored_at m hs c t _ _ x).trans ?_
  obtain ⟨e1, e2⟩ := index_facts t
  have v1 (a : Fin 2) := ((cfgA m).win (1 : Fin 3)).rect_emb_val t (above m t (rowOf (step m)) x) a
  have v2 := ((cfgA m).win (2 : Fin 3)).rect_emb_val t x (0 : Fin 2)
  refine congrArg₂ (fun p q : EReal => p * q) rfl
    (congrArg (V₀ m c (Proc.devRef .tc main_arg1)) (funext fun a => Fin.ext ((v1 a).trans ?_)))
  match a with
  | ⟨0, _⟩ =>
    show (winC 1).index t (0 : Fin 2) * 20 + (rowOf (step m)).val = (rowOf (step m)).val
    rw [e1]
    show 0 * 20 + _ = _
    omega
  | ⟨1, _⟩ =>
    refine Eq.trans ?_ v2.symm
    show (winC 1).index t (1 : Fin 2) * 2048 + (x (0 : Fin 2)).val = (winC 2).index t (0 : Fin 2) * 2048 + (x (0 : Fin 2)).val
    rw [e1, e2]
    rfl

/-- The kernel's run over the ideal values: its result is the product. -/
theorem kernel_run (g : Dev nD → PrngReg) (hs : ∀ c : Dev nD, InRange ((m ((c : Thread nD τ).loc main_arg2) : IVec S_ 32) ix0)) :
    θ_run (defs (F := Ideal)) (onTc (τ := τ) (main (F := Ideal))) ⟨m, fun _ => 0, g⟩ fun r => ∀ c : Dev nD,
      r.2.mem ((c : Thread nD τ).loc main_v3)
        = product (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  have hs' : InRange (step m) := by rw [step_eq m 0]; exact hs 0
  refine θ_run_mono (value_run m g (left m) (left_cut m hs')) fun r h c => ⟨(h c).1.trans ?_, (h c).2⟩
  rw [array_eq m hs' c, entry_probs, V₀_of_ne m c main_arg1 (by decide), step_eq m c]
  funext j
  pointwise [product, productT]

end Cert.MaskMul
-- ==== Proof.lean ====
/-
  The certificate: the three frames, the sanctioned idealization (no operation is rewritten), and the equality of the two
  results over the ideal values for a step that names a row of the mask.
-/

module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_step_names_row
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- From memories that agree on the arguments, the step naming a row, both programs end at the one product. -/
theorem same_result : Cert.algebraic_KernelIdeal_ReferenceIdeal_pre_step_names_row (hKernelIdeal := Cert.KernelIdeal.Gen.facts)
    (hReferenceIdeal := Cert.ReferenceIdeal.Gen.facts) (hPre_step_names_row := Cert.Pre_step_names_row.Gen.facts) := by
  intro m g m' g' hpre hagree
  have hs := fun c => MaskMul.inRange_of_pre _ _ _ (hpre c) ix0
  refine ⟨_, MaskMul.kernel_run m g hs, θ_run_mono (MaskMul.reference_run m' g' fun c => ?_) fun r h c => ⟨(h c).1.trans ?_, (h c).2⟩⟩
  · rw [(hagree c).2.2]; exact hs c
  · rw [(hagree c).1, (hagree c).2.1, (hagree c).2.2]

/-- Everything the certificate claims; a frame under the precondition is the frame without it. -/
theorem claim : Cert.Claim := ⟨Cert.Kernel.Gen.facts, Cert.KernelIdeal.Gen.facts, Cert.ReferenceIdeal.Gen.facts, Cert.Pre_step_names_row.Gen.facts,
  MaskMul.kernel_frame, MaskMul.ideal_frame, fun m g _ => MaskMul.ideal_frame m g trivial,
  MaskMul.reference_frame, fun m g _ => MaskMul.reference_frame m g trivial, trivial, same_result⟩

end Cert.Proof

end
